-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_arg0) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S1x128x4096 : Shape := ⟨3, ![1, 128, 4096]⟩
abbrev S128x4096 : Shape := ⟨2, ![128, 4096]⟩
abbrev S32x4096 : Shape := ⟨2, ![32, 4096]⟩

abbrev nBuf : Space → Nat
  | .hbm => 4
  | .vmem => 4
  | .smem => 0
  | _ => 0

abbrev bufTy : (tb : Table) → Fin (tcTables nBuf tb) → BufTy
  | .hbm, ⟨0, _⟩ => ⟨S1x128x4096, .f32⟩
  | .hbm, ⟨1, _⟩ => ⟨S128x4096, .f32⟩
  | .hbm, ⟨2, _⟩ => ⟨S128x4096, .f32⟩
  | .hbm, ⟨3, _⟩ => ⟨S1x128x4096, .f32⟩
  | .local _ .vmem, ⟨0, _⟩ => ⟨S32x4096, .f32⟩
  | .local _ .vmem, ⟨1, _⟩ => ⟨S32x4096, .f32⟩
  | .local _ .vmem, ⟨2, _⟩ => ⟨S32x4096, .f32⟩
  | .local _ .vmem, ⟨3, _⟩ => ⟨S32x4096, .f32⟩
  | _, _ => ⟨S1x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference.lean ====
abbrev S1x128x4096 : Shape := ⟨3, ![1, 128, 4096]⟩

abbrev nBuf : Space → Nat
  | .hbm => 1
  | .vmem => 0
  | .smem => 0
  | _ => 0

abbrev bufTy : (tb : Table) → Fin (tcTables nBuf tb) → BufTy
  | .hbm, ⟨0, _⟩ => ⟨S1x128x4096, .f32⟩
  | _, _ => ⟨S1x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Copy.KernelIdeal.lean ====
/-
  The idealized kernel: a grid of (2, 2) points copies the argument, 32 rows at a point, between two reshapes that undo
  each other. Proved here: the result array ends equal to the argument.
-/
module

public import proofs.«01_k».proof.Proof.Gen.KernelIdeal.Frame
public import Idealize.ShloMosaic.Lib.Pipeline.Value
public import Idealize.ShloMosaic.Lib.Pipeline.ValueKit

@[expose] public section

noncomputable section

open Idealize.ShloMosaic Idealize.ShloMosaic.TcCoe Idealize.SL.Sem

/-! ## The idealized kernel -/

namespace Cert.KernelIdeal.Copy

open Cert.KernelIdeal Cert.KernelIdeal.Gen

variable {F : FTy → Type} [FloatOps F]
variable (m : (ℓ : Loc nD τ sig) → Buf (Elt F) ℓ) (ρ : Dev nD → PrngReg)

/-- Device `c`'s argument, its rows laid out as a matrix: what the pallas_call is given. -/
abbrev rows (c : Dev nD) : Buf (Elt F) ((c : Thread nD τ).loc main_v0) :=
  shapeCast S128x4096 (m ((c : Thread nD τ).loc main_arg0)) shapeCasts_S1x128x4096_S128x4096

/-- When the region is entered its input array holds the argument's rows. -/
theorem entry_rows (c : Dev nD) : V m c main_v0 = rows m c := by
  show StableHlo.after _ _ _ = _
  simp only [List.flatten_cons, List.flatten_nil, List.append_nil, StableHlo.after_cons, StableHlo.after_nil]
  exact StableHlo.reshape_result ..

/-- The body leaves in the output's buffer the block that it finds in the input's. -/
theorem body_copies (x : Vec F S32x4096 .f32) : out0_1 x = x := by
  unfold out0_1
  rw [View.canon_unit_zero (funext fun a => by fin_cases a <;> rfl), View.ld_unit_zero (funext fun a => by fin_cases a <;> rfl)]
  exact shapeCast_self _ _

/-- At every point of the (2, 2) grid the block written back is the matching block of the argument's rows:
    the two windows have one index map. -/
theorem flushed_rows (c : Dev nD) (t : Fin cfg0.N) :
    (dats m 0 c).flushed 1 t = (win0_1.blk t).view.read (Elt F) (rows m c) := by
  show (cfg0.win 1).cut (grid0.coords t) ((dats m 0 c).after 1 t) = _
  rw [after0_1, body_copies]
  show (win0_0.blk t).view.read (Elt F) (V m c main_v0) = _
  rw [entry_rows]
  rfl

/-- The four blocks cover the output array, so it ends holding the argument's rows. -/
theorem array_rows (c : Dev nD) : (dats m 0 c).arrAt 1 cfg0.N = rows m c :=
  (dats m 0 c).arrAt_eq_of_cover 1 (rows m c) (fun t _ => flushed_rows m c t)
    (Pipeline.Window.Covers.cover (w := win0_1) (by decide +kernel) (Memref.isWhole_whole _))

/-- The reshape after the region undoes the one before it: the result ends as the argument. -/
theorem result_arg (c : Dev nD) :
    Pipeline.afterTail₀ cfgs (dats m) 0 (V0 m) [hostOps1] c main_v2 = m ((c : Thread nD τ).loc main_arg0) := by
  unfold Pipeline.afterTail₀
  simp only [List.flatten_cons, List.flatten_nil, List.append_nil, StableHlo.after_cons, StableHlo.after_nil]
  refine (StableHlo.reshape_result ..).trans ?_
  have e : Pipeline.withArrays spec0 c (V0 m c) (fun w => (dats m 0 c).arrAt w cfg0.N) (Proc.devRef .tc main_v1) = rows m c :=
    (Pipeline.withArrays_arr spec0 (by decide) c (V0 m c) (fun w => (dats m 0 c).arrAt w cfg0.N) 1).trans (array_rows m c)
  show shapeCast S1x128x4096 (Pipeline.withArrays spec0 c (V0 m c) (fun w => (dats m 0 c).arrAt w cfg0.N) (Proc.devRef .tc main_v1)) _ = _
  rw [e]
  exact shapeCast_shapeCast _ _ _

/-- THE RUN: the program terminates with its result equal to its argument, and its argument unchanged. -/
theorem run : θ_run defs (onTc (τ := τ) (main (F := F))) ⟨m, fun _ => 0, ρ⟩ fun r => ∀ c : Dev nD,
      r.2.mem ((c : Thread nD τ).loc main_v2) = m ((c : Thread nD τ).loc main_arg0)
      ∧ r.2.mem ((c : Thread nD τ).loc main_arg0) = m ((c : Thread nD τ).loc main_arg0) :=
  (θ_run defs _ _).mono (fun _ h c =>
      ⟨((h c).2 main_v2 (Pipeline.mem_restRefs_of main_v2 (by decide) (by decide))).trans (result_arg m c),
       ((h c).2 main_arg0 (Pipeline.mem_restRefs_of main_arg0 (by decide) (by decide))).trans (W_main_arg0 m (dats m) c)⟩)
    (run_main m ρ)

end Cert.KernelIdeal.Copy

end
-- ==== Proof.Copy.Identity.lean ====
/-
  The reference, as printed and idealized: it returns its argument, so its run is that of no operation at all.
-/
module

public import proofs.«01_k».proof.Reference
public import proofs.«01_k».proof.ReferenceIdeal
public import Idealize.ShloMosaic.Lib.StableHlo.Run

@[expose] public section

noncomputable section

open Idealize.ShloMosaic Idealize.ShloMosaic.TcCoe Idealize.SL.Sem

namespace Cert.Reference.Identity

open Cert.Reference

variable {F : FTy → Type} [FloatOps F] [Facts]
variable (m : (ℓ : Loc nD τ sig) → Buf (Elt F) ℓ) (ρ : Dev nD → PrngReg)

/-- The reference terminates with its argument, which is its result, unchanged. -/
theorem run : θ_run defs (onTc (τ := τ) (main (F := F))) ⟨m, fun _ => 0, ρ⟩ fun r => ∀ c : Dev nD,
      r.2.mem ((c : Thread nD τ).loc main_arg0) = m ((c : Thread nD τ).loc main_arg0) :=
  (θ_run defs _ _).mono (fun _ h c => h c main_arg0)
    (StableHlo.run_seq (by decide) (by decide) defs main (fun _ => []) (fun _ => rfl) (fun _ => trivial) m ρ)

end Cert.Reference.Identity

namespace Cert.ReferenceIdeal.Identity

open Cert.ReferenceIdeal

variable {F : FTy → Type} [FloatOps F] [Facts]
variable (m : (ℓ : Loc nD τ sig) → Buf (Elt F) ℓ) (ρ : Dev nD → PrngReg)

/-- The idealized reference terminates with its argument, which is its result, unchanged. -/
theorem run : θ_run defs (onTc (τ := τ) (main (F := F))) ⟨m, fun _ => 0, ρ⟩ fun r => ∀ c : Dev nD,
      r.2.mem ((c : Thread nD τ).loc main_arg0) = m ((c : Thread nD τ).loc main_arg0) :=
  (θ_run defs _ _).mono (fun _ h c => h c main_arg0)
    (StableHlo.run_seq (by decide) (by decide) defs main (fun _ => []) (fun _ => rfl) (fun _ => trivial) m ρ)

end Cert.ReferenceIdeal.Identity

end
-- ==== Proof.lean ====
/-
  The certificate: the kernel copies its argument, tile by tile, so its result is the reference's.

  The frames of the kernel and of its idealization are the generated ones. What the kernel computes is proved in
  `Proof/Copy/Kernel.lean` and `Proof/Copy/KernelIdeal.lean` (the result ends equal to the argument), the reference's
  run in `Proof/Copy/Identity.lean`. Here the claims are put together from them.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Reference
public import proofs.«01_k».proof.Proof.Copy.Kernel
public import proofs.«01_k».proof.Proof.Copy.KernelIdeal
public import proofs.«01_k».proof.Proof.Copy.Identity
public import Idealize.ShloMosaic.Lib.Quiescent

@[expose] public section

noncomputable section

namespace Cert.Proof

open Idealize.ShloMosaic Idealize.ShloMosaic.TcCoe Idealize.SL.Sem

/-- The reference terminates, its argument unchanged; it has no semaphore. -/
theorem frame_reference : Cert.quiescent_Reference := fun m ρ _ =>
  (θ_run Cert.Reference.defs _ _).mono (fun r h => ⟨h, sem_eq_zero_of_no_sems (by decide) r.2⟩)
    (Cert.Reference.Identity.run (F := Bits) m ρ)

/-- The idealized reference terminates, its argument unchanged; it has no semaphore. -/
theorem frame_referenceIdeal : Cert.quiescent_ReferenceIdeal := fun m ρ _ =>
  (θ_run Cert.ReferenceIdeal.defs _ _).mono (fun r h => ⟨h, sem_eq_zero_of_no_sems (by decide) r.2⟩)
    (Cert.ReferenceIdeal.Identity.run (F := Ideal) m ρ)

/-- Over the extended reals kernel and reference, from equal arguments, end with equal results: both the argument. -/
theorem algebraic : Cert.algebraic_KernelIdeal_ReferenceIdeal := fun m ρ m' ρ' _ hagree =>
  ⟨fun c => m ((c.tc : Thread Cert.KernelIdeal.nD Cert.KernelIdeal.τ).loc Cert.KernelIdeal.main_arg0),
    Cert.KernelIdeal.Copy.run (F := Ideal) m ρ,
    (θ_run Cert.ReferenceIdeal.defs _ _).mono (fun _ h c => ⟨(h c).trans (hagree c), h c⟩)
      (Cert.ReferenceIdeal.Identity.run (F := Ideal) m' ρ')⟩

/-- Word for word kernel and reference, from equal arguments, end with equal results: both the argument. -/
theorem bitexact : Cert.bitexact_Kernel_Reference := fun m ρ m' ρ' _ hagree =>
  ⟨fun c => m ((c.tc : Thread Cert.Kernel.nD Cert.Kernel.τ).loc Cert.Kernel.main_arg0),
    Cert.Kernel.Copy.run (F := Bits) m ρ,
    (θ_run Cert.Reference.defs _ _).mono (fun _ h c => ⟨(h c).trans (hagree c), h c⟩)
      (Cert.Reference.Identity.run (F := Bits) m' ρ')⟩

/-- All the claims. -/
theorem claim : Cert.Claim :=
  ⟨Cert.Kernel.Gen.facts, Cert.KernelIdeal.Gen.facts, Cert.ReferenceIdeal.Gen.facts, Cert.Reference.Gen.facts,
    fun m ρ _ => Cert.Kernel.Gen.frame m ρ, fun m ρ _ => Cert.KernelIdeal.Gen.frame m ρ,
    frame_referenceIdeal, frame_reference, trivial, algebraic, bitexact⟩

end Cert.Proof

end
